-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ preserves_Kernel_KernelIdeal
    ∧ algebraic_KernelIdeal_ReferenceIdeal_pre_entries_finite (hKernelIdeal := hKernelIdeal) (hReferenceIdeal := hReferenceIdeal) (hPre_entries_finite := hPre_entries_finite)
-- ==== Pre_entries_finite.lean ====
abbrev S8x576x64 : Shape := ⟨3, ![8, 576, 64]⟩
abbrev S512x64 : Shape := ⟨2, ![512, 64]⟩
abbrev S8x576x512 : Shape := ⟨3, ![8, 576, 512]⟩
abbrev S_ : Shape := ⟨0, ![]⟩

class Facts : Prop where
  bcast_S_S8x576x64 : S_.BroadcastsInDim S8x576x64 (![] : Fin 0 → Fin S8x576x64.rank)
  reducesTo_S8x576x64_S_d0_1_2 : S8x576x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S8x576x512 : S_.BroadcastsInDim S8x576x512 (![] : Fin 0 → Fin S8x576x512.rank)
  reducesTo_S8x576x512_S_d0_1_2 : S8x576x512.ReducesTo [0, 1, 2] S_

variable [Facts]

def fn {F : FTy → Type} [FloatOps F] (main_arg0 : FVec F S8x576x64 .f32) (main_arg1 : FVec F S512x64 .f32) (main_arg2 : FVec F S8x576x512 .f32) : IVec S_ 1 :=
  let main_v0 : FVec F S8x576x64 .f32 := Host.absf main_arg0
  let main_cst : FVec F S_ .f32 := constant S_ .f32 0x7F800000#32
  let main_v1 : FVec F S8x576x64 .f32 := broadcastInDim S8x576x64 ![] bcast_S_S8x576x64 main_cst
  let main_v2 : IVec S8x576x64 1 := cmpf .olt main_v0 main_v1
  let main_c : IVec S_ 1 := constantI S_ 1 1#1
  let main_v3 : IVec S_ 1 := (fun x v => Host.reduce IntOp.andi x v reducesTo_S8x576x64_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_cst_2 : FVec F S_ .f32 := constant S_ .f32 0x7F800000#32
  let main_v9 : FVec F S8x576x512 .f32 := broadcastInDim S8x576x512 ![] bcast_S_S8x576x512 main_cst_2
  let main_v10 : IVec S8x576x512 1 := cmpf .olt main_arg2 main_v9
  let main_c_3 : IVec S_ 1 := constantI S_ 1 1#1
  let main_v11 : IVec S_ 1 := (fun x v => Host.reduce IntOp.andi x v reducesTo_S8x576x512_S_d0_1_2 h_S_) main_v10 main_c_3
  let main_v12 : IVec S_ 1 := andi main_v8 main_v11
  main_v12
-- ==== Kernel.lean ====
abbrev S8x576x64 : Shape := ⟨3, ![8, 576, 64]⟩
abbrev S512x64 : Shape := ⟨2, ![512, 64]⟩
abbrev S8x576x512 : Shape := ⟨3, ![8, 576, 512]⟩
abbrev S8x576 : Shape := ⟨2, ![8, 576]⟩
abbrev S2x576x64 : Shape := ⟨3, ![2, 576, 64]⟩
abbrev S2x576x512 : Shape := ⟨3, ![2, 576, 512]⟩
abbrev S1x512 : Shape := ⟨2, ![1, 512]⟩
abbrev S1152x512 : Shape := ⟨2, ![1152, 512]⟩
abbrev S1152x64 : Shape := ⟨2, ![1152, 64]⟩
abbrev S512 : Shape := ⟨1, ![512]⟩
abbrev S1152 : Shape := ⟨1, ![1152]⟩
abbrev S1152x1 : Shape := ⟨2, ![1152, 1]⟩
abbrev S2x576 : Shape := ⟨2, ![2, 576]⟩
abbrev S1x576 : Shape := ⟨2, ![1, 576]⟩
abbrev S576 : Shape := ⟨1, ![576]⟩

abbrev nBuf : Space → Nat
  | .hbm => 6
  | .vmem => 13
  | .smem => 0
  | _ => 0

abbrev bufTy : (tb : Table) → Fin (tcTables nBuf tb) → BufTy
  | .hbm, ⟨0, _⟩ => ⟨S8x576x64, .f32⟩
  | .hbm, ⟨1, _⟩ => ⟨S512x64, .f32⟩
  | .hbm, ⟨2, _⟩ => ⟨S8x576x512, .f32⟩
  | .hbm, ⟨3, _⟩ => ⟨S8x576x64, .f32⟩
  | .hbm, ⟨4, _⟩ => ⟨S8x576, .i32⟩
  | .hbm, ⟨5, _⟩ => ⟨S8x576x512, .f32⟩
  | .local _ .vmem, ⟨0, _⟩ => ⟨S2x576x64, .f32⟩
  | .local _ .vmem, ⟨1, _⟩ => ⟨S2x576x64, .f32⟩
  | .local _ .vmem, ⟨2, _⟩ => ⟨S512x64, .f32⟩
  | .local _ .vmem, ⟨3, _⟩ => ⟨S2x576x512, .f32⟩
  | .local _ .vmem, ⟨4, _⟩ => ⟨S2x576x512, .f32⟩
  | .local _ .vmem, ⟨5, _⟩ => ⟨S2x576x64, .f32⟩
  | .local _ .vmem, ⟨6, _⟩ => ⟨S2x576x64, .f32⟩
  | .local _ .vmem, ⟨7, _⟩ => ⟨S8x576, .i32⟩
  | .local _ .vmem, ⟨8, _⟩ => ⟨S2x576x512, .f32⟩
  | .local _ .vmem, ⟨9, _⟩ => ⟨S2x576x512, .f32⟩
  | .local _ .vmem, ⟨10, _⟩ => ⟨S1x512, .f32⟩
  | .local _ .vmem, ⟨11, _⟩ => ⟨S512x64, .f32⟩
  | .local _ .vmem, ⟨12, _⟩ => ⟨S1152x512, .i32⟩
  | _, _ => ⟨S8x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def k0_off1 (i : grid0.Coords) (c0_i32_18 : BitVec 32) : Fin 2 → Nat :=
  let arg0 : BitVec 32 := BitVec.ofNat 32 (i 0).val
  let c2_i32 : BitVec 32 := 2#32
  let v32 : BitVec 32 := Scalar.muli arg0 c2_i32
  let v33 : BitVec 32 := Scalar.addi v32 c0_i32_18
  let v34 : Index := Scalar.indexCast v33
  let c0_19 : Index := 0#32
  ![v34.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x576x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x576x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x576x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x576 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x576x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x576x64 : Shape := ⟨3, ![8, 576, 64]⟩
abbrev S512x64 : Shape := ⟨2, ![512, 64]⟩
abbrev S8x576x512 : Shape := ⟨3, ![8, 576, 512]⟩
abbrev S8x576x1x64 : Shape := ⟨4, ![8, 576, 1, 64]⟩
abbrev S1x512x64 : Shape := ⟨3, ![1, 512, 64]⟩
abbrev S1x1x512x64 : Shape := ⟨4, ![1, 1, 512, 64]⟩
abbrev S8x576x512x64 : Shape := ⟨4, ![8, 576, 512, 64]⟩
abbrev S_ : Shape := ⟨0, ![]⟩
abbrev S8x576 : Shape := ⟨2, ![8, 576]⟩
abbrev S8x576x1 : Shape := ⟨3, ![8, 576, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x576x64, .f32⟩
  | .hbm, ⟨1, _⟩ => ⟨S512x64, .f32⟩
  | .hbm, ⟨2, _⟩ => ⟨S8x576x512, .f32⟩
  | .hbm, ⟨3, _⟩ => ⟨S8x576x1x64, .f32⟩
  | .hbm, ⟨4, _⟩ => ⟨S1x512x64, .f32⟩
  | .hbm, ⟨5, _⟩ => ⟨S1x1x512x64, .f32⟩
  | .hbm, ⟨6, _⟩ => ⟨S8x576x512x64, .f32⟩
  | .hbm, ⟨7, _⟩ => ⟨S8x576x512x64, .f32⟩
  | .hbm, ⟨8, _⟩ => ⟨S8x576x512x64, .f32⟩
  | .hbm, ⟨9, _⟩ => ⟨S8x576x512x64, .f32⟩
  | .hbm, ⟨10, _⟩ => ⟨S_, .f32⟩
  | .hbm, ⟨11, _⟩ => ⟨S8x576x512, .f32⟩
  | .hbm, ⟨12, _⟩ => ⟨S8x576x512, .f32⟩
  | .hbm, ⟨13, _⟩ => ⟨S8x576x512, .i32⟩
  | .hbm, ⟨14, _⟩ => ⟨S_, .f32⟩
  | .hbm, ⟨15, _⟩ => ⟨S_, .i32⟩
  | .hbm, ⟨16, _⟩ => ⟨S8x576, .f32⟩
  | .hbm, ⟨17, _⟩ => ⟨S8x576, .i32⟩
  | .hbm, ⟨18, _⟩ => ⟨S8x576x512, .f32⟩
  | .hbm, ⟨19, _⟩ => ⟨S8x576x512, .f32⟩
  | .hbm, ⟨20, _⟩ => ⟨S_, .f32⟩
  | .hbm, ⟨21, _⟩ => ⟨S8x576x512, .f32⟩
  | .hbm, ⟨22, _⟩ => ⟨S8x576x512, .f32⟩
  | .hbm, ⟨23, _⟩ => ⟨S_, .f32⟩
  | .hbm, ⟨24, _⟩ => ⟨S8x576, .f32⟩
  | .hbm, ⟨25, _⟩ => ⟨S_, .f32⟩
  | .hbm, ⟨26, _⟩ => ⟨S8x576, .f32⟩
  | .hbm, ⟨27, _⟩ => ⟨S8x576, .f32⟩
  | .hbm, ⟨28, _⟩ => ⟨S8x576x1, .f32⟩
  | .hbm, ⟨29, _⟩ => ⟨S8x576x512, .f32⟩
  | .hbm, ⟨30, _⟩ => ⟨S8x576x512, .f32⟩
  | .hbm, ⟨31, _⟩ => ⟨S8x576x512, .f32⟩
  | .hbm, ⟨32, _⟩ => ⟨S_, .f32⟩
  | .hbm, ⟨33, _⟩ => ⟨S8x576, .f32⟩
  | .hbm, ⟨34, _⟩ => ⟨S8x576x1, .f32⟩
  | .hbm, ⟨35, _⟩ => ⟨S8x576x512, .f32⟩
  | .hbm, ⟨36, _⟩ => ⟨S8x576x512, .f32⟩
  | .hbm, ⟨37, _⟩ => ⟨S8x576x64, .f32⟩
  | _, _ => ⟨S8x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_c : Ref sig .tc := ⟨.hbm, 15, rfl⟩
abbrev main_call1_v1_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Rows.lean ====
module

public import proofs.«01_k».proof.Proof.Gen.KernelIdeal.Skeleton
public import Idealize.ShloMosaic.Lib.Pipeline.ValueKit
public import Idealize.ShloMosaic.Lib.Pointwise

/-!
The index block: what two stores of one row each leave in it, and what reading a buffer stored whole gives.
-/

@[expose] public section

set_option maxRecDepth 16384

noncomputable section

namespace Cert.KernelIdeal.Vq

open Cert.KernelIdeal.Gen
open Idealize.ShloMosaic Idealize.SL.Sem

variable {F : FTy → Type} [FloatOps F]

/-- `y` with rows `2 i` and `2 i + 1` replaced by the two rows of `w`. -/
def setRows {α : Type} (i : grid0.Coords) (w : S2x576.Idx → α) (y : S8x576.Idx → α) : S8x576.Idx → α := fun j =>
  if (j 0).val / 2 = (i 0).val then w (ix2 ⟨(j 0).val % 2, Nat.mod_lt _ (by decide)⟩ (j 1)) else y j

theorem zero2 : ∀ a : Fin 2, (![0, 0] : Fin 2 → Nat) a = 0 := by decide
theorem zero3 : ∀ a : Fin 3, (![0, 0, 0] : Fin 3 → Nat) a = 0 := by decide

/-- A buffer read after a store of its whole shape: the value stored. -/
theorem read_writes_whole {Val : EltTy → Type} [∀ e, Nonempty (Val e)] {sig' : RefSig} {κ : Kind} {sp : Space} {S : Shape}
    {e : EltTy} (v : View sig' κ sp S e) (f : v.ty.Contents Val) (off : Fin S.rank → Nat)
    (inb : ∀ a, off a + S.size a ≤ S.size a) (hoff : ∀ a, off a = 0) (w : S.Idx → Val e) (L : List (View.Piece Val S e)) :
    v.read Val (v.writes Val f ((⟨Rect.unit off S.size inb, w⟩ : View.Piece Val S e) :: L)) = w := by
  funext j
  refine View.read_writes_cons_hit_of_coords v f (Rect.unit off S.size inb) w L j j fun a => ?_
  show (j a).val = off a + 1 * (j a).val
  rw [hoff a]; omega

/-- The second row stored is row 1 of the block of indices. -/
theorem row_one (w : IVec S2x576 32) (n : Fin 576) : k0_pay2 w (ix2 0 n) = w (ix2 1 n) := by
  pointwise [k0_pay2]

/-- The first row stored is row 0 of the block of indices. -/
theorem row_zero (x0 : Vec F S2x576x64 .f32) (a : Vec F S1x512 .f32) (b : Vec F S512x64 .f32) (e : Vec F S1152x512 .i32)
    (n : Fin 576) : k0_pay1 (k0_pay12 x0 a b e) (ix2 0 n) = k0_pay11 x0 a b e (ix2 0 n) := by
  pointwise [k0_pay1, k0_pay12]

/-- The index block read after the two row stores of step `i`. -/
theorem read_rows {Val : EltTy → Type} {sig' : RefSig} {κ : Kind} {sp : Space} {e : EltTy} (i : grid0.Coords)
    (v : View sig' κ sp S8x576 e) (f : v.ty.Contents Val) (w : S2x576.Idx → Val e) (y : S8x576.Idx → Val e)
    (hy : v.read Val f = y) (w1 : S1x576.Idx → Val e) (h1 : ∀ n : Fin 576, w1 (ix2 0 n) = w (ix2 1 n))
    (w0 : S1x576.Idx → Val e) (h0 : ∀ n : Fin 576, w0 (ix2 0 n) = w (ix2 0 n)) :
    v.read Val (v.writes Val f [⟨Rect.unit (s := S8x576) (k0_off1 i 1#32) S1x576.size (k0_off1_inb i 1), w1⟩,
      ⟨Rect.unit (s := S8x576) (k0_off1 i 0#32) S1x576.size (k0_off1_inb i 0), w0⟩]) = setRows i w y := by
  funext j
  have e1 : k0_off1 i 1#32 = ![2 * (i 0).val + 1, 0] := k0_off1_eq i 1
  have e0 : k0_off1 i 0#32 = ![2 * (i 0).val + 0, 0] := k0_off1_eq i 0
  by_cases hj1 : (j 0).val = 2 * (i 0).val + 1
  · rw [View.read_writes_cons_hit_of_coords v f (Rect.unit (s := S8x576) (k0_off1 i 1#32) S1x576.size (k0_off1_inb i 1)) w1 _ (ix2 (0 : Fin 1) (j 1)) j (by
      intro a
      show (j a).val = k0_off1 i 1#32 a + 1 * (ix2 (0 : Fin 1) (j 1) a).val
      rw [e1]
      match a with
      | 0 => show (j 0).val = 2 * (i 0).val + 1 + 1 * 0; omega
      | 1 => show (j 1).val = 0 + 1 * (j 1).val; omega)]
    refine (h1 (j 1)).trans ?_
    have : (j 0).val / 2 = (i 0).val := by omega
    unfold setRows
    rw [if_pos this]
    congr 2
    apply Fin.ext
    show 1 = (j 0).val % 2
    omega
  · rw [View.read_writes_cons_miss_of_axis v f _ _ j (0 : Fin 2) (2 * (i 0).val + 1) 1 (congrFun e1 0) rfl rfl (by omega)]
    by_cases hj0 : (j 0).val = 2 * (i 0).val
    · rw [View.read_writes_cons_hit_of_coords v f (Rect.unit (s := S8x576) (k0_off1 i 0#32) S1x576.size (k0_off1_inb i 0)) w0 _ (ix2 (0 : Fin 1) (j 1)) j (by
        intro a
        show (j a).val = k0_off1 i 0#32 a + 1 * (ix2 (0 : Fin 1) (j 1) a).val
        rw [e0]
        match a with
        | 0 => show (j 0).val = 2 * (i 0).val + 0 + 1 * 0; omega
        | 1 => show (j 1).val = 0 + 1 * (j 1).val; omega)]
      refine (h0 (j 1)).trans ?_
      have : (j 0).val / 2 = (i 0).val := by omega
      unfold setRows
      rw [if_pos this]
      congr 2
      apply Fin.ext
      show 0 = (j 0).val % 2
      omega
    · rw [View.read_writes_cons_miss_of_axis v f _ _ j (0 : Fin 2) (2 * (i 0).val + 0) 1 (congrFun e0 0) rfl rfl (by omega)]
      have : ¬ (j 0).val / 2 = (i 0).val := by omega
      unfold setRows
      rw [if_neg this, ← hy]
      rfl

end Cert.KernelIdeal.Vq

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Rows
public import Idealize.ShloMosaic.Lib.Pipeline.ValueKit

/-!
What one grid step of the kernel leaves in its buffers. The first step also fills the three scratch buffers; the later
steps read what the first one left there.
-/

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body fills its scratch buffers, as a word of the grid coordinate. -/
abbrev firstStep (i : grid0.Coords) : Prop := (Scalar.cmpi .ne (Scalar.extui (Scalar.cmpi .eq (BitVec.ofNat 32 (i 0).val) 0#32)) 0#32) = 1#1

set_option maxHeartbeats 1000000 in
/-- The first step, from any scratch contents: the mixture block, the two rows of indices, the softmax block, and the scratch
    filled with the squared norms of the codebook rows, the codebook times −2 and the column numbers. -/
theorem run_first (c : Dev nD) (i : grid0.Coords) (arg1 : Memref sig .tc .vmem S2x576x64 .f32) (harg1 : arg1.IsWhole) (arg2 : Memref sig .tc .vmem S512x64 .f32) (harg2 : arg2.IsWhole) (arg3 : Memref sig .tc .vmem S2x576x512 .f32) (harg3 : arg3.IsWhole) (arg4 : Memref sig .tc .vmem S2x576x64 .f32) (harg4 : arg4.IsWhole) (arg5 : Memref sig .tc .vmem S8x576 .i32) (harg5 : arg5.IsWhole) (arg6 : Memref sig .tc .vmem S2x576x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S1152x512 .i32) (harg9 : arg9.IsWhole) (hc0 : firstStep i)
    (x0 : Vec F S2x576x64 .f32) (x1 : Vec F S512x64 .f32) (x2 : Vec F S2x576x512 .f32) (y : Vec F S8x576 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay5 x1 (k0_pay6 x2) (k0_pay10 x0 (k0_pay7 x1) (k0_pay8 x1))) ∗ owns (c : Thread nD τ) arg5 fullShare (setRows i (k0_pay11 x0 (k0_pay7 x1) (k0_pay8 x1) (k0_pay9 : Vec F S1152x512 .i32)) y) ∗ owns (c : Thread nD τ) arg6 fullShare (k0_pay4 (k0_pay6 x2) (k0_pay10 x0 (k0_pay7 x1) (k0_pay8 x1))) ∗ owns (c : Thread nD τ) arg7 fullShare (k0_pay7 x1) ∗ owns (c : Thread nD τ) arg8 fullShare (k0_pay8 x1) ∗ owns (c : Thread nD τ) arg9 fullShare (k0_pay9 : Vec F S1152x512 .i32)) -∗ K ⟨⟩))
          ⊢ wp frame (wpE (defs₀ (F := F)) Variants.none c none) E (cc0__vq_step i arg1 harg1 arg2 harg2 arg3 harg3 arg4 harg4 arg5 harg5 arg6 harg6 arg7 harg7 arg8 harg8 arg9 harg9) K := by
  intro E K
  simp only [cc0__vq_step_eq_skeleton]; unfold cc0__vq_step_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_run_names
    frame_out
    exact read_writes_whole _ _ _ _ zero3 _ _
  isplitl [H4]
  · iexists _; isplitr; swap; · iexact H4
    ipureintro
    sl_unfold_run_names
    frame_out
    exact read_rows i arg5.view (harg5.unread y) _ y (harg5.read_unread y) _ (by exact row_one _) _ (by exact row_zero _ _ _ _)
  isplitl [H5]
  · iexists _; isplitr; swap; · iexact H5
    ipureintro
    sl_unfold_run_names
    frame_out
    exact read_writes_whole _ _ _ _ zero3 _ _
  isplitl [HS0]
  · iexists _; isplitr; swap; · iexact HS0
    ipureintro
    sl_unfold_run_names
    frame_out
    exact read_writes_whole _ _ _ _ zero2 _ _
  isplitl [HS1]
  · iexists _; isplitr; swap; · iexact HS1
    ipureintro
    sl_unfold_run_names
    frame_out
    exact read_writes_whole _ _ _ _ zero2 _ _
  iexists _; isplitr; swap; · iexact HS2
  ipureintro
  sl_unfold_run_names
  frame_out
  exact read_writes_whole _ _ _ _ zero2 _ _

set_option maxHeartbeats 1000000 in
/-- A later step, from scratch contents `a`, `b`, `e`: the same three results computed from them, the scratch unchanged. -/
theorem run_later (c : Dev nD) (i : grid0.Coords) (arg1 : Memref sig .tc .vmem S2x576x64 .f32) (harg1 : arg1.IsWhole) (arg2 : Memref sig .tc .vmem S512x64 .f32) (harg2 : arg2.IsWhole) (arg3 : Memref sig .tc .vmem S2x576x512 .f32) (harg3 : arg3.IsWhole) (arg4 : Memref sig .tc .vmem S2x576x64 .f32) (harg4 : arg4.IsWhole) (arg5 : Memref sig .tc .vmem S8x576 .i32) (harg5 : arg5.IsWhole) (arg6 : Memref sig .tc .vmem S2x576x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S1152x512 .i32) (harg9 : arg9.IsWhole) (hc0 : ¬ firstStep i)
    (x0 : Vec F S2x576x64 .f32) (x1 : Vec F S512x64 .f32) (x2 : Vec F S2x576x512 .f32) (y : Vec F S8x576 .i32) (a : Vec F S1x512 .f32) (b : Vec F S512x64 .f32) (e : Vec F S1152x512 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y ∗ (∃ d, owns (c : Thread nD τ) arg6 fullShare d) ∗ owns (c : Thread nD τ) arg7 fullShare a ∗ owns (c : Thread nD τ) arg8 fullShare b ∗ owns (c : Thread nD τ) arg9 fullShare e
            ∗ (iprop(owns (c : Thread nD τ) arg1 fullShare x0 ∗ owns (c : Thread nD τ) arg2 fullShare x1 ∗ owns (c : Thread nD τ) arg3 fullShare x2 ∗ owns (c : Thread nD τ) arg4 fullShare (k0_pay5 x1 (k0_pay6 x2) (k0_pay10 x0 a b)) ∗ owns (c : Thread nD τ) arg5 fullShare (setRows i (k0_pay11 x0 a b e) y) ∗ owns (c : Thread nD τ) arg6 fullShare (k0_pay4 (k0_pay6 x2) (k0_pay10 x0 a b)) ∗ owns (c : Thread nD τ) arg7 fullShare a ∗ owns (c : Thread nD τ) arg8 fullShare b ∗ owns (c : Thread nD τ) arg9 fullShare e) -∗ K ⟨⟩))
          ⊢ wp frame (wpE (defs₀ (F := F)) Variants.none c none) E (cc0__vq_step i arg1 harg1 arg2 harg2 arg3 harg3 arg4 harg4 arg5 harg5 arg6 harg6 arg7 harg7 arg8 harg8 arg9 harg9) K := by
  intro E K
  simp only [cc0__vq_step_eq_skeleton]; unfold cc0__vq_step_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%fs0, %hs0, HS0⟩, ⟨%fs1, %hs1, HS1⟩, ⟨%fs2, %hs2, HS2⟩, Hk⟩
  obtain rfl := harg1.eq_unread hf0; obtain rfl := harg2.eq_unread hf1; obtain rfl := harg3.eq_unread hf2; obtain rfl := harg5.eq_unread hf4
  obtain rfl := harg7.eq_unread hs0; obtain rfl := harg8.eq_unread hs1; obtain rfl := harg9.eq_unread hs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_run_names
    frame_out
    exact read_writes_whole _ _ _ _ zero3 _ _
  isplitl [H4]
  · iexists _; isplitr; swap; · iexact H4
    ipureintro
    sl_unfold_run_names
    frame_out
    exact read_rows i arg5.view (harg5.unread y) _ y (harg5.read_unread y) _ (by exact row_one _) _ (by exact row_zero _ _ _ _)
  isplitl [H5]
  · iexists _; isplitr; swap; · iexact H5
    ipureintro
    sl_unfold_run_names
    frame_out
    exact read_writes_whole _ _ _ _ zero3 _ _
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Vq

end
-- ==== Proof.Steps.lean ====
module

public import proofs.«01_k».proof.Proof.Body
public import Idealize.ShloMosaic.Lib.Pipeline.DatRel
public import Idealize.ShloMosaic.Lib.Pipeline.ArrRel
public import Idealize.ShloMosaic.Lib.Claim

/-!
The kernel's four grid steps together. The mixture and softmax blocks are named outright after every step. The index
block stays in place over the whole grid and each step sets two of its eight rows, so of it only the rows set so far are
known. From the second step on, the scratch buffers hold what the first step wrote.
-/

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch fill happens at the first point only. -/
theorem firstStep_iff (t : Fin cfg0.N) : firstStep (grid0.coords t) ↔ t.val = 0 := by
  have ht : t.val < 4 := Nat.lt_of_lt_of_eq t.isLt N_0
  have e0 : (grid0.coords t 0).val = t.val / 1 % 4 := Pipeline.Grid.coords_val t 0 (by decide) rfl
  simp only [firstStep, e0]
  word_cmp

/-- The grid coordinate is the point's number. -/
theorem coord_val (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

/-- The codebook, as the first point reads it. -/
def cbk (c : Dev nD) : Vec F S512x64 .f32 := iblk m c 1 ⟨0, by decide⟩

/-- Every point reads the same codebook block: its window never moves. -/
theorem iblk_cbk (c : Dev nD) (t : Fin cfg0.N) : iblk m c 1 t = cbk m c := rfl

/-- The distances point `t` computes, one row per input vector of its block, one column per codebook row. -/
def distBlk (c : Dev nD) (t : Fin cfg0.N) : FVec F S1152x512 .f32 :=
  k0_pay10 (iblk m c 0 t) (k0_pay7 (cbk m c)) (k0_pay8 (cbk m c))
/-- The two rows of indices point `t` stores. -/
def idxBlk (c : Dev nD) (t : Fin cfg0.N) : IVec S2x576 32 :=
  k0_pay11 (iblk m c 0 t) (k0_pay7 (cbk m c)) (k0_pay8 (cbk m c)) (k0_pay9 : Vec F S1152x512 .i32)
/-- The softmax block point `t` stores. -/
def encBlk (c : Dev nD) (t : Fin cfg0.N) : Vec F S2x576x512 .f32 := k0_pay4 (k0_pay6 (iblk m c 2 t)) (distBlk m c t)
/-- The mixture block point `t` stores. -/
def qBlk (c : Dev nD) (t : Fin cfg0.N) : Vec F S2x576x64 .f32 := k0_pay5 (cbk m c) (k0_pay6 (iblk m c 2 t)) (distBlk m c t)

/-- The scratch operands. -/
abbrev scM0_0 : Memref sig .tc .vmem S1x512 .f32 := Memref.whole cc0_scratch0
abbrev scM0_1 : Memref sig .tc .vmem S512x64 .f32 := Memref.whole cc0_scratch1
abbrev scM0_2 : Memref sig .tc .vmem S1152x512 .i32 := Memref.whole cc0_scratch2

/-- What the body keeps between points: before the first point the scratch holds anything, afterwards the squared norms of
    the codebook rows, the codebook times −2 and the column numbers. -/
def keep (c : Dev nD) (s : ℕ) : sProp 𝕄 :=
  if s = 0 then Pipeline.ΦA spec0 c
  else iprop((owns (c : Thread nD τ) scM0_0 fullShare (k0_pay7 (cbk m c)) ∗ owns (c : Thread nD τ) scM0_1 fullShare (k0_pay8 (cbk m c))
    ∗ owns (c : Thread nD τ) scM0_2 fullShare (k0_pay9 : Vec F S1152x512 .i32)) ∗ (∃ r, prngReg c r))

/-- The launch's condition with the scratch operands as buffers owned at some contents. -/
theorem phiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body keeps can be forgotten into the launch's condition. -/
theorem keep_forget (c : Dev nD) (s : ℕ) : keep m c s ⊢ Pipeline.ΦA spec0 c := by
  unfold keep
  split
  · exact .rfl
  · rw [phiA_eq]
    iintro ⟨⟨H0, H1, H2⟩, Hg⟩
    isplitl [H0 H1 H2]
    · isplitl [H0]; · iexists _; iexact H0
      isplitl [H1]; · iexists _; iexact H1
      iexists _; iexact H2
    iexact Hg

/-- Only the index window is known by a predicate instead of by its contents. -/
def marks : Fin 6 → Bool := fun w => w.val == 4

/-- The rows of the index block known after point `t`: those of the points up to `t`, each holding its point's indices. -/
def RowsUpTo (c : Dev nD) (t : ℕ) (X : S8x576.Idx → BitVec 32) : Prop :=
  ∀ (u : Fin cfg0.N), u.val ≤ t → ∀ j : S8x576.Idx, (j 0).val / 2 = u.val →
    X j = idxBlk m c u (ix2 ⟨(j 0).val % 2, Nat.mod_lt _ (by decide)⟩ (j 1))

/-- The predicate of each marked window. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun X => RowsUpTo m c t.val X
  | ⟨5, _⟩ => fun _ => True

/-- The proof data: the arrays as launched, each window's block after every point (the index window's unnamed), and what
    the body keeps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qBlk m c t
    | ⟨4, h⟩ => Pipeline.Dat.unnamed (cfg := cfg0) ⟨4, h⟩ t
    | ⟨5, _⟩ => encBlk m c t
  Φ s := keep m c s.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = qBlk m c t := by dsimp only [dats]
theorem after_5 (c : Dev nD) (t : Fin cfg0.N) : (dats m 0 c).after 5 t = encBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the index window may hold before a point after the first: the rows of the points before it. -/
theorem finds_rows (c : Dev nD) (t : Fin cfg0.N) (ht : t.val ≠ 0) (Y : S8x576.Idx → BitVec 32)
    (h : ((dats m 0 c).toRRel marks (Rl m c)).Finds 4 t Y) : RowsUpTo m c (t.val - 1) Y := by
  have hN : t.val < 4 := lt_of_lt_of_eq t.isLt (show cfg0.N = 4 from N_0)
  have hf : (cfg0.win 4).fetch t = false := rfl
  rcases (((dats m 0 c).toRRel marks (Rl m c)).finds_of_pos (w := 4) hf ht Y).mp h with h | h
  · have := (flush0_4 _).mp h
    simp only at this
    omega
  · exact (dats m 0 c).toRRel_leaves (fgt := marks) (Rl := Rl m c) (w := 4) rfl h

/-- Setting point `t`'s rows extends what is known by one point. -/
theorem rows_step (c : Dev nD) (t : Fin cfg0.N) (Y : S8x576.Idx → BitVec 32)
    (h : t.val ≠ 0 → RowsUpTo m c (t.val - 1) Y) :
    RowsUpTo m c t.val (setRows (grid0.coords t) (idxBlk m c t) Y) := by
  intro u hu j hj
  unfold setRows
  rw [coord_val]
  by_cases e : (j 0).val / 2 = t.val
  · rw [if_pos e]
    have : u = t := Fin.ext (by omega)
    rw [this]
  · rw [if_neg e]
    exact h (by omega) u (by omega) j hj

/-- The staging memrefs at a point. -/
abbrev ms0_0 (t : Fin cfg0.N) : Memref sig .tc .vmem S2x576x64 .f32 := win0_0.stage (cfg0.slots t 0)
abbrev ms0_1 (t : Fin cfg0.N) : Memref sig .tc .vmem S512x64 .f32 := win0_1.stage (cfg0.slots t 1)
abbrev ms0_2 (t : Fin cfg0.N) : Memref sig .tc .vmem S2x576x512 .f32 := win0_2.stage (cfg0.slots t 2)
abbrev ms0_3 (t : Fin cfg0.N) : Memref sig .tc .vmem S2x576x64 .f32 := win0_3.stage (cfg0.slots t 3)
abbrev ms0_4 (t : Fin cfg0.N) : Memref sig .tc .vmem S8x576 .i32 := win0_4.stage (cfg0.slots t 4)
abbrev ms0_5 (t : Fin cfg0.N) : Memref sig .tc .vmem S2x576x512 .f32 := win0_5.stage (cfg0.slots t 5)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel marks (Rl m c)).Finds 4 t Y⌝ ∗ owns (c : Thread nD τ) (ms0_4 t) fullShare Y)
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜RowsUpTo m c t.val X⌝ ∗ owns (c : Thread nD τ) (ms0_4 t) fullShare X)
    ∗ owns (c : Thread nD τ) (ms0_5 t) fullShare ((dats m 0 c).after 5 t))

set_option maxHeartbeats 1600000 in
/-- The body at any point: the first fills the scratch, the later ones read it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = keep m c (t.val + 1) from rfl,
    show (dats m 0 c).owesAt () t.succ = (dats m 0 c).owesAt () t.castSucc from rfl,
    show (dats m 0 c).Φ t.castSucc = keep m c t.val from rfl,
    after_0, after_1, after_2, after_3, after_5]
  by_cases h0 : t.val = 0
  · rw [show keep m c t.val = Pipeline.ΦA spec0 c from by unfold keep; rw [if_pos h0], phiA_eq]
    iintro ⟨⟨⟨HS0, HS1, HS2⟩, Hg⟩, Ho, ⟨%d0, H0⟩, ⟨%d1, H1⟩, ⟨%d2, H2⟩, ⟨%d3, H3⟩, ⟨%Y, %hY, H4⟩, ⟨%d5, H5⟩⟩
    iapply ((run_first c (grid0.coords t) _ _ _ _ _ _ _ _ _ _ _ _ _ _ _ _ _ _ ((firstStep_iff t).mpr h0) (iblk m c 0 t) (iblk m c 1 t) (iblk m c 2 t) Y) Set.univ _)
    isplitl [H0]; · iexact H0
    isplitl [H1]; · iexact H1
    isplitl [H2]; · iexact H2
    isplitl [H3]; · iexists _; iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · unfold keep
      rw [if_neg (Nat.succ_ne_zero _)]
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro
      exact rows_step m c t Y fun h => absurd h0 h
    iexact H5
  · have hY' : ∀ Y, ((dats m 0 c).toRRel marks (Rl m c)).Finds 4 t Y → RowsUpTo m c (t.val - 1) Y := finds_rows m c t h0
    rw [show keep m c t.val = _ from by unfold keep; rw [if_neg h0]]
    iintro ⟨⟨⟨HS0, HS1, HS2⟩, Hg⟩, Ho, ⟨%d0, H0⟩, ⟨%d1, H1⟩, ⟨%d2, H2⟩, ⟨%d3, H3⟩, ⟨%Y, %hY, H4⟩, ⟨%d5, H5⟩⟩
    iapply ((run_later c (grid0.coords t) _ _ _ _ _ _ _ _ _ _ _ _ _ _ _ _ _ _ (fun h => h0 ((firstStep_iff t).mp h)) (iblk m c 0 t) (iblk m c 1 t) (iblk m c 2 t) Y (k0_pay7 (cbk m c)) (k0_pay8 (cbk m c)) k0_pay9) Set.univ _)
    isplitl [H0]; · iexact H0
    isplitl [H1]; · iexact H1
    isplitl [H2]; · iexact H2
    isplitl [H3]; · iexists _; iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · unfold keep
      rw [if_neg (Nat.succ_ne_zero _)]
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro
      exact rows_step m c t Y fun _ => hY' Y hY
    iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body at every point, in the launch's form. -/
theorem body_obligation (c : Dev nD) : BodyObligationRel (dats (F := F) m 0 c) (defs₀ (F := F)) Variants.none () Set.univ marks (Rl m c) := fun t => by
  rw [bigSep_W0, bigSep_W0, defs₀_row]
  exact triple_restated (sound_body m c t) rfl .rfl fun _ => .rfl

end Cert.KernelIdeal.Vq

end
-- ==== Proof.Run.lean ====
module

public import proofs.«01_k».proof.Proof.Steps

/-!
The kernel's run: its arguments end unchanged, and each result array holds, block by block, what the four steps computed.
-/

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat RDat Cfg Window BodyObligationRel)

variable {F : FTy → Type} [FloatOps F]

variable (m : (ℓ : Loc nD τ sig) → Buf (Elt F) ℓ) (ρ : Dev nD → PrngReg)

/-- The proof data with the index window held to its predicate. -/
def rdat (c : Dev nD) : RDat τ (Elt F) Unit ℕ (UR sig nD τ) ℕ cfg0 c := (dats m 0 c).toRRel marks (Rl m c)

set_option backward.isDefEq.respectTransparency.types false in
/-- The launch: every array ends at what the proof data say, and every counter is zero at every final state. -/
theorem run_main_quiescent : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => .rfl) (hout := fun c => keep_forget m c (Fin.last cfg0.N).val) (hQ' := fun _ h => h)

/-- The run without the counters. -/
theorem run_main : θ_run defs (onTc (τ := τ) (main (F := F))) (s₀ m ρ) (RDat.FramePost (cfgs 0) (rdat m) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePost.arr_in h c 0 rfl).trans (A_eq m c 0), (RDat.FramePost.arr_in h c 1 rfl).trans (A_eq m c 1),
      (RDat.FramePost.arr_in h c 2 rfl).trans (A_eq m c 2)⟩) (run_main m ρ)

/-- The frame claim: the arguments unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result arrays -/

/-- The grid point whose block holds batch entry `b`. -/
def pt (b : Fin 8) : Fin cfg0.N := ⟨b.val / 2, lt_of_lt_of_eq (by omega) (show 4 = cfg0.N from N_0.symm)⟩
/-- The place of batch entry `b` in its block. -/
def sl (b : Fin 8) : Fin 2 := ⟨b.val % 2, Nat.mod_lt _ (by decide)⟩

/-- The whole mixture, from the blocks. -/
def qArr (c : Dev nD) : S8x576x64.Idx → F .f32 := fun j => qBlk m c (pt (j 0)) (ix3 (sl (j 0)) (j 1) (j 2))
/-- The whole index array, from the blocks. -/
def idxArr (c : Dev nD) : S8x576.Idx → BitVec 32 := fun j => idxBlk m c (pt (j 0)) (ix2 (sl (j 0)) (j 1))
/-- The whole softmax, from the blocks. -/
def encArr (c : Dev nD) : S8x576x512.Idx → F .f32 := fun j => encBlk m c (pt (j 0)) (ix3 (sl (j 0)) (j 1) (j 2))

/-- Where each blocked window sits at a point. -/
theorem idx : ∀ t : Fin cfg0.N, win0_0.index t = ![t.val, 0, 0] ∧ win0_1.index t = ![0, 0] ∧ win0_2.index t = ![t.val, 0, 0]
    ∧ win0_3.index t = ![t.val, 0, 0] ∧ win0_5.index t = ![t.val, 0, 0] :=
  (by decide +kernel : ∀ t : Fin grid0.N, _)

/-- A block's entry is the array's entry at the batch entry the block's row is. -/
theorem at_point {α : Type} {k : ℕ} (f : Fin cfg0.N → (⟨3, ![2, 576, k]⟩ : Shape).Idx → α) (t : Fin cfg0.N) (y : (⟨3, ![2, 576, k]⟩ : Shape).Idx)
    (e : (⟨3, ![8, 576, k]⟩ : Shape).Idx) (h0 : (e 0).val = t.val * 2 + (y 0).val) (h1 : (e 1).val = (y 1).val)
    (h2 : (e 2).val = (y 2).val) : f t y = f (pt (e 0)) (ix3 (sl (e 0)) (e 1) (e 2)) := by
  have hy : (y 0).val < 2 := (y 0).isLt
  have ht : pt (e 0) = t := Fin.ext (by show (e 0).val / 2 = t.val; omega)
  rw [ht]
  congr 1
  funext a
  match a with
  | 0 => exact Fin.ext (by show (y 0).val = (e 0).val % 2; omega)
  | 1 => exact Fin.ext h1.symm
  | 2 => exact Fin.ext h2.symm

/-- The mixture array after a run. -/
theorem arr_q (c : Dev nD) : (dats m 0 c).arrAt 3 cfg0.N = qArr m c := by
  refine (dats m 0 c).arrAt_eq_of_covers 3 _ (by decide +kernel) fun t hf y => ?_
  blk_simp
  rw [after_3]
  refine at_point (qBlk m c) t y ((win0_3.blk t).view.emb y) ?_ ?_ ?_ <;> blk_simp [idx t] <;> simp

/-- The softmax array after a run. -/
theorem arr_enc (c : Dev nD) : (dats m 0 c).arrAt 5 cfg0.N = encArr m c := by
  refine (dats m 0 c).arrAt_eq_of_covers 5 _ (by decide +kernel) fun t hf y => ?_
  blk_simp
  rw [after_5]
  refine at_point (encBlk m c) t y ((win0_5.blk t).view.emb y) ?_ ?_ ?_ <;> blk_simp [idx t] <;> simp

/-- The index array after a run. -/
theorem arr_idx (c : Dev nD) (G : Buf (Elt F) ((c.tc : Thread nD τ).loc main_v0_1)) (h : (rdat m c).ArrAt 4 cfg0.N G) :
    G = idxArr m c := by
  obtain ⟨X, hX, hG⟩ := RDat.ArrAt.emb_eq_of_wholeAt (rd := rdat m c) (w := 4) h (t₀ := ⟨3, by decide⟩) (by decide +kernel)
  have hX' : RowsUpTo m c 3 X := (dats m 0 c).toRRel_leaves (fgt := marks) (Rl := Rl m c) (w := 4) rfl hX
  funext j
  refine (hG j).trans ?_
  exact hX' (pt (j 0)) (by show (j 0).val / 2 ≤ 3; have := (j 0).isLt; change (j 0).val < 8 at this; omega) j rfl

/-- The three result arrays and the arguments after a run. -/
theorem results : θ_run defs (onTc (τ := τ) (main (F := F))) ⟨m, fun _ => 0, ρ⟩ (fun r => ∀ c : Dev nD,
      r.2.mem ((c.tc : Thread nD τ).loc main_v0_0) = qArr m c
      ∧ r.2.mem ((c.tc : Thread nD τ).loc main_v0_1) = idxArr m c
      ∧ r.2.mem ((c.tc : Thread nD τ).loc main_v0_2) = encArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have h3 : r.2.mem ((cfg0.spec 3).arr.view.loc (c.tc : Thread nD τ)) = (dats m 0 c).arrAt 3 cfg0.N :=
    (((dats m 0 c).toR.override_arrAt (ovr := fun w => match marks w with | true => some (fun t _ X => Rl m c w t X) | false => none)
      (w := 3) rfl _ _).trans ((dats m 0 c).toR_arrAt_iff 3 _ _)).mp ((h c).1 3)
  have h5 : r.2.mem ((cfg0.spec 5).arr.view.loc (c.tc : Thread nD τ)) = (dats m 0 c).arrAt 5 cfg0.N :=
    (((dats m 0 c).toR.override_arrAt (ovr := fun w => match marks w with | true => some (fun t _ X => Rl m c w t X) | false => none)
      (w := 5) rfl _ _).trans ((dats m 0 c).toR_arrAt_iff 5 _ _)).mp ((h c).1 5)
  exact ⟨h3.trans (arr_q m c), arr_idx m c _ ((h c).1 4), h5.trans (arr_enc m c),
    (RDat.FramePost.arr_in h c 0 rfl).trans (A_eq m c 0), (RDat.FramePost.arr_in h c 1 rfl).trans (A_eq m c 1),
      (RDat.FramePost.arr_in h c 2 rfl).trans (A_eq m c 2)⟩

end Cert.KernelIdeal.Vq

end
-- ==== Proof.Dist.lean ====
module

public import Idealize.ShloMosaic.PureOps.Ideal

/-!
The distance of two vectors of real entries: the root of the expanded square, clamped at zero, against the root of the
sum of the squared differences.
-/

@[expose] public section

noncomputable section

namespace Cert.Vq

open Idealize.ShloMosaic

/-- An extended real that is a real number. -/
def IsReal (x : EReal) : Prop := x ≠ ⊤ ∧ x ≠ ⊥

/-- A family of such extended reals is a family of real numbers. -/
theorem IsReal.lift {ι : Type} {x : ι → EReal} (hx : ∀ i, IsReal (x i)) : ∃ r : ι → ℝ, x = fun i => (r i : EReal) :=
  ⟨fun i => (x i).toReal, funext fun i => (EReal.coe_toReal (hx i).1 (hx i).2).symm⟩

/-- A finite sum of real numbers, taken among the extended reals. -/
theorem sum_coe {ι : Type} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- The constant the codebook is scaled by is minus two. -/
theorem ofBits_neg_two : Ideal.ofBits .f32 0xC0000000#32 = ((-2 : ℝ) : EReal) := by
  simp [Ideal.ofBits, Ideal.ieee, -EReal.coe_mul, -EReal.coe_neg]; norm_num

/-- The sum of the squared differences of two vectors of real entries, as a real number. -/
theorem sq_sum_coe (a b : Fin 64 → ℝ) :
    ∑ l, ((a l : EReal) - b l) * ((a l : EReal) - b l) = ((∑ l, (a l - b l) * (a l - b l) : ℝ) : EReal) := by
  rw [← sum_coe]
  exact Finset.sum_congr rfl fun l _ => by rw [← EReal.coe_sub, ← EReal.coe_mul]

/-- The expanded square, clamped at zero, is the sum of the squared differences. -/
theorem expanded_eq {x w : Fin 64 → EReal} (hx : ∀ l, IsReal (x l)) (hw : ∀ l, IsReal (w l)) :
    max (∑ l, x l * x l + ∑ l, x l * (w l * Ideal.ofBits .f32 0xC0000000#32) + ∑ l, w l * w l) 0
      = ∑ l, (x l - w l) * (x l - w l) := by
  obtain ⟨a, rfl⟩ := IsReal.lift hx
  obtain ⟨b, rfl⟩ := IsReal.lift hw
  rw [sq_sum_coe]
  simp only [ofBits_neg_two, ← EReal.coe_mul]
  rw [sum_coe, sum_coe, sum_coe, ← EReal.coe_add, ← EReal.coe_add]
  have e : ∑ l, a l * a l + ∑ l, a l * (b l * -2) + ∑ l, b l * b l = ∑ l, (a l - b l) * (a l - b l) := by
    rw [← Finset.sum_add_distrib, ← Finset.sum_add_distrib]
    exact Finset.sum_congr rfl fun l _ => by ring
  rw [e]
  refine max_eq_left ?_
  exact_mod_cast Finset.sum_nonneg fun l _ => mul_self_nonneg (a l - b l)

/-- The distance of two vectors of real entries is a real number. -/
theorem dist_isReal {x w : Fin 64 → EReal} (hx : ∀ l, IsReal (x l)) (hw : ∀ l, IsReal (w l)) :
    IsReal (Ideal.sqrt (∑ l, (x l - w l) * (x l - w l))) := by
  obtain ⟨a, rfl⟩ := IsReal.lift hx
  obtain ⟨b, rfl⟩ := IsReal.lift hw
  rw [sq_sum_coe, Ideal.sqrt_coe, if_neg (not_lt.2 (Finset.sum_nonneg fun l _ => mul_self_nonneg (a l - b l)))]
  exact ⟨EReal.coe_ne_top _, EReal.coe_ne_bot _⟩

end Cert.Vq
end
-- ==== Proof.Softmax.lean ====
module

public import proofs.«01_k».proof.Proof.Dist

/-!
The softmax of a row of logits none of which is plus infinity: taking the row's largest entry away from every entry first,
or not, the quotients are the same.
-/

@[expose] public section

noncomputable section

namespace Cert.Vq

open Idealize.ShloMosaic

/-- The constant a maximum begins at is minus infinity. -/
theorem ofBits_bot : Ideal.ofBits .f32 4286578688#32 = ⊥ := by
  simp [Ideal.ofBits, Ideal.ieee]

/-- The constant a minimum begins at is plus infinity. -/
theorem ofBits_top : Ideal.ofBits .f32 2139095040#32 = ⊤ := by
  simp [Ideal.ofBits, Ideal.ieee]

/-- Division by one changes nothing. -/
theorem div_one' (x : EReal) : Ideal.div x 1 = x := by
  have h := Ideal.div_coe (y := 1) one_ne_zero x
  simpa using h

/-- The quotient of a real number by a real number that is not zero. -/
theorem div_real (a : ℝ) {b : ℝ} (hb : b ≠ 0) : Ideal.div (a : EReal) (b : EReal) = ((a / b : ℝ) : EReal) := by
  rw [Ideal.div_coe hb, ← EReal.coe_mul, mul_one_div]

/-- The exponential, as a real number, of an extended real that is not plus infinity. -/
def expR (z : EReal) : ℝ := if z = ⊥ then 0 else Real.exp z.toReal

/-- Off plus infinity the exponential is that real number. -/
theorem exp_eq {z : EReal} (hz : z ≠ ⊤) : Ideal.exp z = (expR z : EReal) := by
  induction z with
  | bot => simp [expR]
  | coe r => simp [expR]
  | top => exact absurd rfl hz

/-- It is not negative. -/
theorem expR_nonneg (z : EReal) : 0 ≤ expR z := by
  unfold expR
  split
  · exact le_rfl
  · exact (Real.exp_pos _).le

/-- It is positive off minus infinity. -/
theorem expR_pos {z : EReal} (hz : z ≠ ⊥) : 0 < expR z := by
  unfold expR
  rw [if_neg hz]
  exact Real.exp_pos _

/-- Taking a real number away from the argument divides the exponential by its own. -/
theorem exp_sub_eq {z : EReal} (hz : z ≠ ⊤) (r : ℝ) : Ideal.exp (z - r) = ((expR z * Real.exp (-r) : ℝ) : EReal) := by
  induction z with
  | bot => simp [expR]
  | coe s => rw [← EReal.coe_sub, Ideal.exp_coe]; simp [expR, sub_eq_add_neg, Real.exp_add]
  | top => exact absurd rfl hz

variable {n : ℕ}

/-- Every entry is at most the maximum over the row. -/
theorem le_fold_max (z : Fin n → EReal) (k : Fin n) : z k ≤ Finset.univ.fold max ⊥ z :=
  (Finset.le_fold_max _).2 (.inr ⟨k, Finset.mem_univ k, le_rfl⟩)

/-- The maximum over a row without plus infinity is not plus infinity. -/
theorem fold_max_lt_top {z : Fin n → EReal} (hz : ∀ k, z k < ⊤) : Finset.univ.fold max ⊥ z < ⊤ :=
  (Finset.fold_max_lt _).2 ⟨bot_lt_top, fun k _ => hz k⟩

/-- The two softmaxes of a row agree. -/
theorem softmax_eq {z : Fin n → EReal} (hz : ∀ k, z k < ⊤) (k : Fin n) :
    Ideal.div (Ideal.exp (z k - Finset.univ.fold max ⊥ z)) (∑ l, Ideal.exp (z l - Finset.univ.fold max ⊥ z))
      = Ideal.div (Ideal.exp (z k)) (∑ l, Ideal.exp (z l)) := by
  have hM := fold_max_lt_top hz
  by_cases hb : Finset.univ.fold max ⊥ z = ⊥
  · have h0 : ∀ l, z l = ⊥ := fun l => le_bot_iff.1 (hb ▸ le_fold_max z l)
    simp only [h0, EReal.bot_sub]
  · obtain ⟨l₀, hl₀⟩ : ∃ l, z l ≠ ⊥ := by
      by_contra hall
      push Not at hall
      refine hb (le_bot_iff.1 ((Finset.fold_max_le _).2 ⟨le_rfl, fun l _ => (hall l).le⟩))
    generalize Finset.univ.fold max ⊥ z = M at hM hb
    lift M to ℝ using ⟨hM.ne, hb⟩
    simp only [exp_sub_eq (hz _).ne, exp_eq (hz _).ne, sum_coe]
    have hS : 0 < ∑ l, expR (z l) :=
      Finset.sum_pos' (fun l _ => expR_nonneg _) ⟨l₀, Finset.mem_univ _, expR_pos hl₀⟩
    rw [← Finset.sum_mul, div_real _ (mul_pos hS (Real.exp_pos _)).ne', div_real _ hS.ne',
      mul_div_mul_right _ _ (Real.exp_pos _).ne']

end Cert.Vq
end
-- ==== Proof.Pre.lean ====
module

public import proofs.«01_k».proof.Defs
public import proofs.«01_k».proof.Proof.Dist
public import proofs.«01_k».proof.Proof.Softmax
public import Idealize.ShloMosaic.Lib.Pointwise
public import Idealize.ShloMosaic.Lib.ReduceAll

/-!
The precondition, entry by entry: the input vectors and the codebook hold real numbers, and no noise entry is plus
infinity.
-/

@[expose] public section

set_option maxRecDepth 16384

noncomputable section

namespace Cert.Pre_entries_finite

open Idealize.ShloMosaic Idealize.ShloMosaic.Tactic
open Cert.Vq

/-- The side conditions the precondition is stated under. -/
instance preFacts : Cert.Pre_entries_finite.Facts where
  bcast_S_S8x576x64 := by decide
  reducesTo_S8x576x64_S_d0_1_2 := by decide
  h_S_ := by decide
  bcast_S_S512x64 := by decide
  reducesTo_S512x64_S_d0_1 := by decide
  bcast_S_S8x576x512 := by decide
  reducesTo_S8x576x512_S_d0_1_2 := by decide

/-- An extended real whose absolute value is below plus infinity is a real number. -/
theorem isReal_of_abs_lt {x : EReal} (h : max x (-x) < ⊤) : IsReal x := by
  refine ⟨(lt_of_le_of_lt (le_max_left _ _) h).ne, fun hb => ?_⟩
  subst hb
  simp at h

/-- The comparison of two extended reals holds of its bit. -/
theorem lt_of_bit {x y : EReal} (h : Ideal.cmp .olt x y = 1#1) : x < y := by
  by_contra hn
  simp [Ideal.cmp, hn] at h

/-- An array whose every absolute value compares below plus infinity holds real numbers. -/
theorem real_of_all {s : Shape} (x : FVec Ideal s .f32) (hb : S_.BroadcastsInDim s ![])
    (h : ∀ i, cmpf .olt (Host.absf x) (broadcastInDim s ![] hb (constant S_ .f32 0x7F800000#32)) i = 1#1) (i : s.Idx) :
    IsReal (x i) := by
  refine isReal_of_abs_lt ?_
  have h' : Ideal.cmp .olt (max (x i) (-x i)) (Ideal.ofBits .f32 2139095040#32) = 1#1 := h i
  rw [ofBits_top] at h'
  exact lt_of_bit h'

/-- An array whose every entry compares below plus infinity holds no plus infinity. -/
theorem lt_of_all {s : Shape} (x : FVec Ideal s .f32) (hb : S_.BroadcastsInDim s ![])
    (h : ∀ i, cmpf .olt x (broadcastInDim s ![] hb (constant S_ .f32 0x7F800000#32)) i = 1#1) (i : s.Idx) :
    x i < (⊤ : EReal) := by
  have h' : Ideal.cmp .olt (x i) (Ideal.ofBits .f32 2139095040#32) = 1#1 := h i
  rw [ofBits_top] at h'
  exact lt_of_bit h'

/-- A conjunction of two bits holds both. -/
theorem bits_and {a b : BitVec 1} (h : IntOp.andi a b = 1#1) : a = 1#1 ∧ b = 1#1 := by
  revert a b
  decide

/-- What the precondition says of the three argument arrays. -/
theorem decode (x : FVec Ideal S8x576x64 .f32) (w : FVec Ideal S512x64 .f32) (g : FVec Ideal S8x576x512 .f32)
    (h : fn x w g = fun _ => 1#1) :
    (∀ i, IsReal (x i)) ∧ (∀ i, IsReal (w i)) ∧ ∀ i, g i < (⊤ : EReal) := by
  have h0 := congrFun h ix0
  dsimp only [fn] at h0
  obtain ⟨h1, hg⟩ := bits_and h0
  obtain ⟨hx, hw⟩ := bits_and h1
  exact ⟨real_of_all x _ (Host.reduce_andi_all _ _ _ _ _ hx), real_of_all w _ (Host.reduce_andi_all _ _ _ _ _ hw),
    lt_of_all g _ (Host.reduce_andi_all _ _ _ _ _ hg)⟩

end Cert.Pre_entries_finite
end
-- ==== Proof.Argmin.lean ====
module

public import Idealize.ShloMosaic.PureOps.Ideal
public import Idealize.ShloMosaic.PureOps.Reduce

/-!
The index of a row's least entry, computed two ways: by pairing every entry with its index and keeping the lesser pair,
entry first and index second; and by taking the least index among the entries equal to the row's minimum.
-/

@[expose] public section

noncomputable section

namespace Cert.Vq

open Idealize.ShloMosaic

/-- The pair `p` comes before the pair `q`, or is it: entry first, index second. -/
def Before (p q : EReal × BitVec 32) : Prop := p.1 < q.1 ∨ p.1 = q.1 ∧ p.2.toInt ≤ q.2.toInt

/-- A pair comes before itself. -/
theorem Before.refl (p : EReal × BitVec 32) : Before p p := .inr ⟨rfl, le_rfl⟩

/-- The order of pairs is transitive. -/
theorem Before.trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A choice between two pairs that keeps one of the two, the one that comes before the other. -/
def Keeps (f : EReal × BitVec 32 → EReal × BitVec 32 → EReal × BitVec 32) : Prop :=
  ∀ a b, (f a b = a ∨ f a b = b) ∧ Before (f a b) a ∧ Before (f a b) b

/-- Such a choice, folded along a list, leaves a pair of the list or the pair begun with, and it comes before all of them. -/
theorem Keeps.foldl {f : EReal × BitVec 32 → EReal × BitVec 32 → EReal × BitVec 32} (hf : Keeps f) :
    ∀ (L : List (EReal × BitVec 32)) (a : EReal × BitVec 32),
      (L.foldl f a = a ∨ L.foldl f a ∈ L) ∧ Before (L.foldl f a) a ∧ ∀ q ∈ L, Before (L.foldl f a) q
  | [], a => ⟨.inl rfl, .refl a, fun q h => absurd h (List.not_mem_nil)⟩
  | b :: L, a => by
    obtain ⟨hmem, hbef, hall⟩ := hf.foldl L (f a b)
    obtain ⟨hor, ha, hb⟩ := hf a b
    simp only [List.foldl_cons]
    refine ⟨?_, hbef.trans ha, fun q hq => ?_⟩
    · rcases hmem with h | h
      · rcases hor with h' | h'
        · exact .inl (h.trans h')
        · exact .inr (by rw [h, h']; exact List.mem_cons_self)
      · exact .inr (List.mem_cons_of_mem _ h)
    · rcases List.mem_cons.1 hq with rfl | hq
      · exact hbef.trans hb
      · exact hall q hq

/-- `k` is the first index of a least entry of the row `d`. -/
def FirstMin (d : Fin 512 → EReal) (k : Fin 512) : Prop := ∀ l, d k < d l ∨ d k = d l ∧ k.val ≤ l.val

/-- An index below the row's length, read as a signed number, is itself. -/
theorem toInt_ofNat (k : Fin 512) : (BitVec.ofNat 32 k.val).toInt = k.val := by
  have := k.isLt
  rw [BitVec.toInt_eq_toNat_cond, BitVec.toNat_ofNat, Nat.mod_eq_of_lt (by omega), if_pos (by omega)]

/-- Of a row whose entries are below plus infinity, the fold of such a choice over the row's pairs, begun at plus infinity,
    is a first least entry with its index. -/
theorem Keeps.firstMin {f : EReal × BitVec 32 → EReal × BitVec 32 → EReal × BitVec 32} (hf : Keeps f)
    {d : Fin 512 → EReal} (hd : ∀ k, d k < ⊤) {L : List (EReal × BitVec 32)}
    (hL : ∀ p, p ∈ L ↔ ∃ k : Fin 512, p = (d k, BitVec.ofNat 32 k.val)) :
    ∃ k : Fin 512, FirstMin d k ∧ (L.foldl f (⊤, 0#32)).2 = BitVec.ofNat 32 k.val := by
  obtain ⟨hmem, _, hall⟩ := hf.foldl L (⊤, 0#32)
  have hin : L.foldl f (⊤, 0#32) ∈ L := by
    rcases hmem with h | h
    · exfalso
      have h0 := hall _ ((hL _).2 ⟨0, rfl⟩)
      rw [h] at h0
      rcases h0 with h0 | h0
      · exact absurd h0 (not_lt.2 le_top)
      · exact absurd h0.1.symm (hd 0).ne
    · exact h
  obtain ⟨k, hk⟩ := (hL _).1 hin
  refine ⟨k, fun l => ?_, by rw [hk]⟩
  have hl := hall _ ((hL _).2 ⟨l, rfl⟩)
  rw [hk] at hl
  rcases hl with hl | ⟨hl, hi⟩
  · exact .inl hl
  · refine .inr ⟨hl, ?_⟩
    simp only [toInt_ofNat] at hi
    omega

/-- The lesser of two words, read as a signed number. -/
theorem toInt_minsi (a b : BitVec 32) : (IntOp.minsi a b).toInt = min a.toInt b.toInt := by
  unfold IntOp.minsi
  by_cases h : a.slt b
  · rw [if_pos h, min_eq_left (BitVec.slt_iff_toInt_lt.1 h).le]
  · rw [if_neg h, min_eq_right (not_lt.1 fun h' => h (BitVec.slt_iff_toInt_lt.2 h'))]

/-- The least index among the entries equal to the row's minimum is the first index of a least entry. -/
theorem firstMin_eq {d : Fin 512 → EReal} (hd : ∀ k, d k < ⊤) {k : Fin 512} (hk : FirstMin d k) :
    Finset.univ.fold IntOp.minsi 2147483647#32
        (fun l : Fin 512 => if d l = Finset.univ.fold min ⊤ d then BitVec.ofNat 32 l.val else 512#32)
      = BitVec.ofNat 32 k.val := by
  have hmin : Finset.univ.fold min ⊤ d = d k := by
    refine le_antisymm ?_ ?_
    · exact (Finset.fold_min_le _).2 (.inr ⟨k, Finset.mem_univ k, le_rfl⟩)
    · refine (Finset.le_fold_min _).2 ⟨le_top, fun l _ => ?_⟩
      rcases hk l with h | h
      · exact h.le
      · exact h.1.le
  rw [hmin]
  refine BitVec.eq_of_toInt_eq ?_
  rw [← Finset.fold_hom (op' := min) (m := BitVec.toInt) toInt_minsi, toInt_ofNat]
  refine le_antisymm ?_ ?_
  · refine (Finset.fold_min_le _).2 (.inr ⟨k, Finset.mem_univ k, ?_⟩)
    rw [if_pos rfl, toInt_ofNat]
  · refine (Finset.le_fold_min _).2 ⟨?_, fun l _ => ?_⟩
    · have := k.isLt
      have e : (2147483647#32).toInt = 2147483647 := by decide
      omega
    · have := k.isLt
      split
      · rename_i h
        rw [toInt_ofNat]
        rcases hk l with h' | h'
        · exact absurd h h'.ne'
        · exact_mod_cast h'.2
      · have e : (512#32).toInt = 512 := by decide
        omega

end Cert.Vq
end
-- ==== Proof.KernelValue.lean ====
module

public import proofs.«01_k».proof.Proof.Gen.KernelIdeal.Skeleton
public import proofs.«01_k».proof.Proof.Argmin
public import proofs.«01_k».proof.Proof.Softmax
public import Idealize.ShloMosaic.Lib.Pointwise

/-!
What one grid step computes, over any blocks, each value read at one index. A step lays the rows of its two batch entries
below one another.
-/

@[expose] public section

set_option maxRecDepth 16384

noncomputable section

namespace Cert.KernelIdeal.Vq

open Cert.KernelIdeal Cert.KernelIdeal.Gen
open Idealize.ShloMosaic Idealize.ShloMosaic.Tactic
open Cert.Vq

/-- The row of vector `n` of the step's batch entry `s`. -/
def row (s : Fin 2) (n : Fin 576) : Fin 1152 := ⟨s.val * 576 + n.val, by omega⟩

/-- A row's batch entry. -/
theorem row_div (s : Fin 2) (n : Fin 576) (h : (row s n).val / 576 < 2) : (⟨(row s n).val / 576, h⟩ : Fin 2) = s :=
  Fin.ext (show (s.val * 576 + n.val) / 576 = s.val by omega)

/-- A row's vector. -/
theorem row_mod (s : Fin 2) (n : Fin 576) (h : (row s n).val % 576 < 576) : (⟨(row s n).val % 576, h⟩ : Fin 576) = n :=
  Fin.ext (show (s.val * 576 + n.val) % 576 = n.val by omega)

/-- A distance is the root of the expanded square, clamped at zero. -/
theorem pay10_at (x : Vec Ideal S2x576x64 .f32) (w : Vec Ideal S512x64 .f32) (s : Fin 2) (n : Fin 576) (k : Fin 512) :
    k0_pay10 x (k0_pay7 w) (k0_pay8 w) (ix2 (row s n) k)
      = Ideal.sqrt (max (∑ l : Fin 64, x (ix3 s n l) * x (ix3 s n l)
          + ∑ l : Fin 64, x (ix3 s n l) * (w (ix2 k l) * Ideal.ofBits .f32 0xC0000000#32)
          + ∑ l : Fin 64, w (ix2 k l) * w (ix2 k l)) (0 : EReal)) := by
  pointwise [k0_pay10, k0_pay7, k0_pay8]
  simp only [row_div, row_mod]

/-- On real entries it is the root of the sum of the squared differences. -/
theorem pay10_eq (x : Vec Ideal S2x576x64 .f32) (w : Vec Ideal S512x64 .f32) (s : Fin 2) (n : Fin 576) (k : Fin 512)
    (hx : ∀ l : Fin 64, IsReal (x (ix3 s n l))) (hw : ∀ l : Fin 64, IsReal (w (ix2 k l))) :
    k0_pay10 x (k0_pay7 w) (k0_pay8 w) (ix2 (row s n) k)
      = Ideal.sqrt (∑ l : Fin 64, (x (ix3 s n l) - w (ix2 k l)) * (x (ix3 s n l) - w (ix2 k l))) :=
  (pay10_at x w s n k).trans (congrArg Ideal.sqrt (expanded_eq hx hw))

/-- The column numbers. -/
theorem pay9_at (r : Fin 1152) (k : Fin 512) : (k0_pay9 : Vec Ideal S1152x512 .i32) (ix2 r k) = BitVec.ofNat 32 k.val := by
  rw [k0_pay9]
  pointwise

/-- An index is the least column number among the distances equal to the row's minimum. -/
theorem pay11_at (x : Vec Ideal S2x576x64 .f32) (v11 : Vec Ideal S1x512 .f32) (v12 : Vec Ideal S512x64 .f32) (s : Fin 2)
    (n : Fin 576) :
    k0_pay11 x v11 v12 (k0_pay9 : Vec Ideal S1152x512 .i32) (ix2 s n)
      = Finset.univ.fold IntOp.minsi 2147483647#32 (fun l : Fin 512 =>
          if k0_pay10 x v11 v12 (ix2 (row s n) l)
              = Finset.univ.fold min (⊤ : EReal) (fun l : Fin 512 => k0_pay10 x v11 v12 (ix2 (row s n) l))
            then BitVec.ofNat 32 l.val else 512#32) := by
  pointwise [k0_pay11]
  simp only [pay9_at, ofBits_top]
  rfl

/-- A softmax entry is the exponential of the logit over the sum of its row's. -/
theorem pay4_at (g : Vec Ideal S2x576x512 .f32) (d : FVec Ideal S1152x512 .f32) (s : Fin 2) (n : Fin 576) (k : Fin 512) :
    k0_pay4 (k0_pay6 g) d (ix3 s n k)
      = Ideal.div (Ideal.exp (g (ix3 s n k) - d (ix2 (row s n) k)))
          (∑ l : Fin 512, Ideal.exp (g (ix3 s n l) - d (ix2 (row s n) l))) := by
  pointwise [k0_pay4, k0_pay6, k0_pay3]
  rfl

/-- A mixture entry is the sum of the codebook's column, weighted by the softmax. -/
theorem pay5_at (g : Vec Ideal S2x576x512 .f32) (w : Vec Ideal S512x64 .f32) (d : FVec Ideal S1152x512 .f32) (s : Fin 2)
    (n : Fin 576) (l : Fin 64) :
    k0_pay5 w (k0_pay6 g) d (ix3 s n l)
      = ∑ k : Fin 512, k0_pay4 (k0_pay6 g) d (ix3 s n k) * w (ix2 k l) := by
  pointwise [k0_pay5, k0_pay4, k0_pay6, k0_pay3]

end Cert.KernelIdeal.Vq
end
-- ==== Proof.RefValue.lean ====
module

public import proofs.«01_k».proof.Proof.Gen.ReferenceIdeal
public import Idealize.ShloMosaic.Lib.Pointwise

/-!
What the reference computes, over any three argument arrays: its arrays in the order it builds them, each a term of its
own, and each read at one index.
-/

@[expose] public section

set_option maxRecDepth 16384

noncomputable section

namespace Cert.ReferenceIdeal.Vq

open Cert.ReferenceIdeal Cert.ReferenceIdeal.Gen
open Idealize.ShloMosaic Idealize.ShloMosaic.Tactic

/-- The difference of every input vector and every codebook row. -/
def diff (x : FVec Ideal S8x576x64 .f32) (w : FVec Ideal S512x64 .f32) : FVec Ideal S8x576x512x64 .f32 :=
  subf
    (broadcastInDim S8x576x512x64 ![0, 1, 2, 3] bcast_S8x576x1x64_S8x576x512x64_0_1_2_3
      (broadcastInDim S8x576x1x64 ![0, 1, 3] bcast_S8x576x64_S8x576x1x64_0_1_3 x))
    (broadcastInDim S8x576x512x64 ![0, 1, 2, 3] bcast_S1x1x512x64_S8x576x512x64_0_1_2_3
      (broadcastInDim S1x1x512x64 ![1, 2, 3] bcast_S1x512x64_S1x1x512x64_1_2_3
        (broadcastInDim S1x512x64 ![1, 2] bcast_S512x64_S1x512x64_1_2 w)))

/-- The distances: the norm of every difference. -/
def dist (x : FVec Ideal S8x576x64 .f32) (w : FVec Ideal S512x64 .f32) : FVec Ideal S8x576x512 .f32 :=
  Host.sqrt (Host.reduceAdd (mulf (diff x w) (diff x w)) (constant S_ .f32 0#32)
    reducesTo_S8x576x512x64_S8x576x512_d3 h_S_)

/-- The indices of the nearest codebook rows. -/
def nearest (d : FVec Ideal S8x576x512 .f32) : IVec S8x576 32 := fun j =>
  (Host.argReduce reducer_argmin_f32_i32 d (iotaInDim S8x576x512 32 2) (constant S_ .f32 2139095040#32)
    (constantI S_ 32 0#32) reducesTo_S8x576x512_S8x576_d2 h_S_ j).2

/-- The logits: the noise less the distances, over the temperature one. -/
def logits (d g : FVec Ideal S8x576x512 .f32) : FVec Ideal S8x576x512 .f32 :=
  Host.divf (addf (Host.negf d) g) (broadcastInDim S8x576x512 ![] bcast_S_S8x576x512 (constant S_ .f32 1065353216#32))

/-- The largest logit of each row. -/
def top (z : FVec Ideal S8x576x512 .f32) : FVec Ideal S8x576 .f32 :=
  maximumf (broadcastInDim S8x576 ![] bcast_S_S8x576 (constant S_ .f32 4286578688#32))
    (Host.reduce FloatOps.maximumf z (constant S_ .f32 4286578688#32) reducesTo_S8x576x512_S8x576_d2 h_S_)

/-- The exponentials of the logits less their row's largest. -/
def expd (z : FVec Ideal S8x576x512 .f32) : FVec Ideal S8x576x512 .f32 :=
  Host.exp (subf z (broadcastInDim S8x576x512 ![0, 1, 2] bcast_S8x576x1_S8x576x512_0_1_2
    (broadcastInDim S8x576x1 ![0, 1] bcast_S8x576_S8x576x1_0_1 (top z))))

/-- The softmax of each row of logits. -/
def soft (z : FVec Ideal S8x576x512 .f32) : FVec Ideal S8x576x512 .f32 :=
  Host.divf (expd z) (broadcastInDim S8x576x512 ![0, 1, 2] bcast_S8x576x1_S8x576x512_0_1_2
    (broadcastInDim S8x576x1 ![0, 1] bcast_S8x576_S8x576x1_0_1
      (Host.reduceAdd (expd z) (constant S_ .f32 0#32) reducesTo_S8x576x512_S8x576_d2 h_S_)))

/-- The mixture of codebook rows by the weights `e`. -/
def mix (e : FVec Ideal S8x576x512 .f32) (w : FVec Ideal S512x64 .f32) : FVec Ideal S8x576x64 .f32 :=
  Host.dotGeneral dot_S8x576x512_S512x64_S8x576x64_2_0_01_1_n_n none e w

/-- A distance is the root of the sum of the squared differences. -/
theorem dist_at (x : FVec Ideal S8x576x64 .f32) (w : FVec Ideal S512x64 .f32) (b : Fin 8) (n : Fin 576) (k : Fin 512) :
    dist x w (ix3 b n k)
      = Ideal.sqrt (∑ l : Fin 64, (x (ix3 b n l) - w (ix2 k l)) * (x (ix3 b n l) - w (ix2 k l))) := by
  pointwise [dist, diff]

/-- A logit is the noise less the distance, divided by one. -/
theorem logits_at (d g : FVec Ideal S8x576x512 .f32) (b : Fin 8) (n : Fin 576) (k : Fin 512) :
    logits d g (ix3 b n k) = Ideal.div (-d (ix3 b n k) + g (ix3 b n k)) 1 := by
  pointwise [logits]

/-- A row's largest logit is the maximum over the row, begun at minus infinity. -/
theorem top_at (z : FVec Ideal S8x576x512 .f32) (b : Fin 8) (n : Fin 576) :
    top z (ix2 b n) = max (Ideal.ofBits .f32 4286578688#32)
      (Finset.univ.fold max (Ideal.ofBits .f32 4286578688#32) fun k : Fin 512 => z (ix3 b n k)) := by
  rw [top, maximumf_apply, Ideal.maximumf_def, Host.reduce_eq_fold_single FloatOps.maximumf z _
    reducesTo_S8x576x512_S8x576_d2 (by decide) h_S_]
  pointwise
  refine congrArg (max _) (Finset.fold_congr fun k _ => congrArg z ?_)
  funext a
  match a with
  | ⟨0, _⟩ => rfl
  | ⟨1, _⟩ => rfl
  | ⟨2, _⟩ => rfl

/-- An exponential is that of the logit less its row's largest. -/
theorem expd_at (z : FVec Ideal S8x576x512 .f32) (b : Fin 8) (n : Fin 576) (k : Fin 512) :
    expd z (ix3 b n k) = Ideal.exp (z (ix3 b n k) - top z (ix2 b n)) := by
  pointwise [expd]

/-- A softmax entry is the exponential over the sum of its row's. -/
theorem soft_at (z : FVec Ideal S8x576x512 .f32) (b : Fin 8) (n : Fin 576) (k : Fin 512) :
    soft z (ix3 b n k) = Ideal.div (expd z (ix3 b n k)) (∑ l : Fin 512, expd z (ix3 b n l)) := by
  pointwise [soft]

/-- A mixture entry is the weighted sum of the codebook's column. -/
theorem mix_at (e : FVec Ideal S8x576x512 .f32) (w : FVec Ideal S512x64 .f32) (b : Fin 8) (n : Fin 576) (l : Fin 64) :
    mix e w (ix3 b n l) = ∑ k : Fin 512, e (ix3 b n k) * w (ix2 k l) := by
  pointwise [mix]

end Cert.ReferenceIdeal.Vq
end
-- ==== Proof.Nearest.lean ====
module

public import proofs.«01_k».proof.Proof.RefValue
public import proofs.«01_k».proof.Proof.Argmin
public import proofs.«01_k».proof.Proof.Softmax
public import Idealize.ShloMosaic.PureOps.Ideal.Laws

/-!
The reference's index of the nearest codebook row: the first index of a least distance.
-/

@[expose] public section

set_option maxRecDepth 16384

noncomputable section

namespace Cert.ReferenceIdeal.Vq

open Cert.ReferenceIdeal Cert.ReferenceIdeal.Gen
open Idealize.ShloMosaic Idealize.ShloMosaic.Tactic
open Cert.Vq

/-- The reference's comparison of two pairs, as a choice of the entry and a choice of the index. -/
theorem reducer_at (a b : EReal) (i k : BitVec 32) :
    reducer_argmin_f32_i32 (F := Ideal) (a, i) (b, k)
      = (if a < b then a else b, if a < b ∨ a = b ∧ i.toInt < k.toInt then i else k) := by
  simp only [reducer_argmin_f32_i32, Ideal.cmpf_def, Ideal.cmp, IntOp.cmpi, IntOp.ori, IntOp.andi, Scalar.select,
    ← BitVec.slt_iff_toInt_lt]
  by_cases h : a < b <;> by_cases h' : a = b <;> by_cases hs : i.slt k = true <;> simp [h, h', hs]

/-- The reference's comparison of two pairs keeps the one that comes before. -/
theorem reducer_keeps : Keeps (reducer_argmin_f32_i32 (F := Ideal)) := by
  rintro ⟨a, i⟩ ⟨b, k⟩
  rw [reducer_at]
  rcases lt_trichotomy a b with h | h | h
  · rw [if_pos h, if_pos (.inl h)]
    exact ⟨.inl rfl, .refl _, .inl h⟩
  · subst h
    rw [if_neg (lt_irrefl a)]
    by_cases hi : i.toInt < k.toInt
    · rw [if_pos (.inr ⟨rfl, hi⟩)]
      exact ⟨.inl rfl, .refl _, .inr ⟨rfl, hi.le⟩⟩
    · rw [if_neg (by rintro (h | ⟨_, h⟩); exacts [lt_irrefl a h, hi h])]
      exact ⟨.inr rfl, .inr ⟨rfl, not_lt.1 hi⟩, .refl _⟩
  · rw [if_neg h.not_gt, if_neg (by rintro (h' | ⟨h', _⟩); exacts [h.not_gt h', h.ne h'.symm])]
    exact ⟨.inr rfl, .inl h, .refl _⟩

/-- The pairs a row's fold runs over are its entries with their indices. -/
theorem mem_fiber (d : FVec Ideal S8x576x512 .f32) (b : Fin 8) (n : Fin 576) (p : EReal × BitVec 32) :
    p ∈ Host.argReduceFiber d (iotaInDim S8x576x512 32 2) reducesTo_S8x576x512_S8x576_d2 (ix2 b n)
      ↔ ∃ k : Fin 512, p = (d (ix3 b n k), BitVec.ofNat 32 k.val) := by
  unfold Host.argReduceFiber
  simp only [List.mem_map, List.mem_filter, List.mem_finRange, true_and, decide_eq_true_eq]
  constructor
  · rintro ⟨q, hq, rfl⟩
    generalize S8x576x512.rowMajor.symm q = i at hq
    refine ⟨i 2, ?_⟩
    have h0 : (i 0).val = b.val :=
      (Shape.ReducesTo.drop_apply_val_of_eq reducesTo_S8x576x512_S8x576_d2 i 0 0).symm.trans (by rw [hq]; rfl)
    have h1 : (i 1).val = n.val :=
      (Shape.ReducesTo.drop_apply_val_of_eq reducesTo_S8x576x512_S8x576_d2 i 1 1).symm.trans (by rw [hq]; rfl)
    have e : i = ix3 b n (i 2) := by
      funext a
      match a with
      | ⟨0, _⟩ => exact Fin.ext h0
      | ⟨1, _⟩ => exact Fin.ext h1
      | ⟨2, _⟩ => rfl
    exact Prod.ext (congrArg d e) rfl
  · rintro ⟨k, rfl⟩
    refine ⟨S8x576x512.rowMajor (ix3 b n k), ?_, ?_⟩
    · rw [Equiv.symm_apply_apply]
      funext a
      match a with
      | ⟨0, _⟩ => exact Fin.ext (Shape.ReducesTo.drop_apply_val_of_eq reducesTo_S8x576x512_S8x576_d2 _ 0 0)
      | ⟨1, _⟩ => exact Fin.ext (Shape.ReducesTo.drop_apply_val_of_eq reducesTo_S8x576x512_S8x576_d2 _ 1 1)
    · rw [Equiv.symm_apply_apply]
      rfl

/-- The array of indices, as the fold of every row's pairs. -/
theorem nearest_eq (d : FVec Ideal S8x576x512 .f32) :
    nearest d = fun j => ((Host.argReduceFiber d (iotaInDim S8x576x512 32 2) reducesTo_S8x576x512_S8x576_d2 j).foldl
      (reducer_argmin_f32_i32 (F := Ideal)) (constant (F := Ideal) S_ .f32 2139095040#32 (Shape.Idx.first h_S_),
        constantI S_ 32 0#32 (Shape.Idx.first h_S_))).2 := by
  have h : nearest d = fun j => (Host.argReduce reducer_argmin_f32_i32 d (iotaInDim S8x576x512 32 2)
      (constant S_ .f32 2139095040#32) (constantI S_ 32 0#32) reducesTo_S8x576x512_S8x576_d2 h_S_ j).2 := rfl
  rw [h]
  funext j
  rw [Ideal.argReduce_eq_reduce2, Host.reduce2_eq_foldl_fiber]

/-- The fold begins at plus infinity and the index zero. -/
theorem fold_begin (L : List (EReal × BitVec 32)) :
    (L.foldl (reducer_argmin_f32_i32 (F := Ideal)) (constant (F := Ideal) S_ .f32 2139095040#32 (Shape.Idx.first h_S_),
      constantI S_ 32 0#32 (Shape.Idx.first h_S_))).2
      = (L.foldl (reducer_argmin_f32_i32 (F := Ideal)) (⊤, 0#32)).2 := by
  have htop : constant (F := Ideal) S_ .f32 2139095040#32 (Shape.Idx.first h_S_) = (⊤ : EReal) := ofBits_top
  rw [htop]
  rfl

/-- The index of the nearest codebook row is the first index of a least distance. -/
theorem nearest_at (d : FVec Ideal S8x576x512 .f32) (b : Fin 8) (n : Fin 576) (hd : ∀ k : Fin 512, d (ix3 b n k) < (⊤ : EReal)) :
    ∃ k : Fin 512, FirstMin (fun k => d (ix3 b n k)) k ∧ nearest d (ix2 b n) = BitVec.ofNat 32 k.val := by
  obtain ⟨k, hk, e⟩ := reducer_keeps.firstMin hd (mem_fiber d b n)
  exact ⟨k, hk, (congrFun (nearest_eq d) (ix2 b n)).trans ((fold_begin _).trans e)⟩

end Cert.ReferenceIdeal.Vq
end
-- ==== Proof.Equal.lean ====
module

public import proofs.«01_k».proof.Proof.Run
public import proofs.«01_k».proof.Proof.KernelValue
public import proofs.«01_k».proof.Proof.RefValue
public import proofs.«01_k».proof.Proof.Nearest
public import Idealize.ShloMosaic.Lib.Pipeline.ValueKit

/-!
The kernel's three result arrays are the reference's, for input vectors and codebook of real entries and noise without
plus infinity.
-/

@[expose] public section

set_option maxRecDepth 16384

noncomputable section

namespace Cert.KernelIdeal.Vq

open Cert.KernelIdeal Cert.KernelIdeal.Gen
open Idealize.ShloMosaic Idealize.ShloMosaic.TcCoe Idealize.ShloMosaic.Tactic
open Idealize.SL.Sem
open Cert.Vq

variable (m : (ℓ : Loc nD τ sig) → Buf (Elt Ideal) ℓ) (c : Dev nD)

/-- The input vectors. -/
abbrev xs : FVec Ideal S8x576x64 .f32 := m ((c.tc : Thread nD τ).loc main_arg0)
/-- The codebook. -/
abbrev ws : FVec Ideal S512x64 .f32 := m ((c.tc : Thread nD τ).loc main_arg1)
/-- The noise. -/
abbrev gs : FVec Ideal S8x576x512 .f32 := m ((c.tc : Thread nD τ).loc main_arg2)

/-- A block of input vectors holds its two batch entries. -/
theorem x_block (b : Fin 8) (n : Fin 576) (l : Fin 64) :
    iblk m c 0 (pt b) (ix3 (sl b) n l) = xs m c (ix3 b n l) := by
  have hp : (pt b).val = b.val / 2 := rfl
  have hs : (sl b).val = b.val % 2 := rfl
  blk_ext [iblk, V, idx (pt b)]

/-- A block of noise holds its two batch entries. -/
theorem g_block (b : Fin 8) (n : Fin 576) (k : Fin 512) :
    iblk m c 2 (pt b) (ix3 (sl b) n k) = gs m c (ix3 b n k) := by
  have hp : (pt b).val = b.val / 2 := rfl
  have hs : (sl b).val = b.val % 2 := rfl
  blk_ext [iblk, V, idx (pt b)]

/-- The codebook's one block is the codebook. -/
theorem w_block (k : Fin 512) (l : Fin 64) : cbk m c (ix2 k l) = ws m c (ix2 k l) := by
  have h : ∀ t : Fin cfg0.N, iblk m c 1 t (ix2 k l) = ws m c (ix2 k l) := fun t => by
    blk_ext [iblk, V, idx t]
  exact h _

variable (hx : ∀ j, IsReal (xs m c j)) (hw : ∀ j, IsReal (ws m c j)) (hg : ∀ j, gs m c j < (⊤ : EReal))

/-- The reference's distances of the kernel's arguments. -/
abbrev refDist : FVec Ideal S8x576x512 .f32 := ReferenceIdeal.Vq.dist (xs m c) (ws m c)

include hx hw in
/-- A step's distances are the reference's. -/
theorem dist_eq (b : Fin 8) (n : Fin 576) (k : Fin 512) :
    distBlk m c (pt b) (ix2 (row (sl b) n) k) = refDist m c (ix3 b n k) := by
  unfold distBlk
  refine (pay10_eq (iblk m c 0 (pt b)) (cbk m c) (sl b) n k (fun l => ?_) (fun l => ?_)).trans ?_
  · exact (x_block m c b n l) ▸ hx _
  · exact (w_block m c k l) ▸ hw _
  · refine Eq.trans ?_ (ReferenceIdeal.Vq.dist_at (xs m c) (ws m c) b n k).symm
    refine congrArg Ideal.sqrt (Finset.sum_congr rfl fun l _ => ?_)
    rw [x_block, w_block]

include hx hw in
/-- The reference's distances are real numbers. -/
theorem refDist_isReal (b : Fin 8) (n : Fin 576) (k : Fin 512) : IsReal (refDist m c (ix3 b n k)) := by
  have h := dist_isReal (x := fun l => xs m c (ix3 b n l)) (w := fun l => ws m c (ix2 k l)) (fun _ => hx _) (fun _ => hw _)
  have e : refDist m c (ix3 b n k) = _ := ReferenceIdeal.Vq.dist_at (xs m c) (ws m c) b n k
  rw [e]
  exact h

include hx hw in
/-- The kernel's indices are the reference's, entry by entry. -/
theorem idx_at (b : Fin 8) (n : Fin 576) :
    idxBlk m c (pt b) (ix2 (sl b) n) = ReferenceIdeal.Vq.nearest (refDist m c) (ix2 b n) := by
  obtain ⟨k, hk, e⟩ := ReferenceIdeal.Vq.nearest_at (refDist m c) b n
    fun k => lt_top_iff_ne_top.2 (refDist_isReal m c hx hw b n k).1
  refine Eq.trans ?_ e.symm
  refine (pay11_at (iblk m c 0 (pt b)) (k0_pay7 (cbk m c)) (k0_pay8 (cbk m c)) (sl b) n).trans ?_
  refine Eq.trans ?_ (firstMin_eq (fun k => lt_top_iff_ne_top.2 (refDist_isReal m c hx hw b n k).1) hk)
  have h : ∀ l, k0_pay10 (iblk m c 0 (pt b)) (k0_pay7 (cbk m c)) (k0_pay8 (cbk m c)) (ix2 (row (sl b) n) l)
      = refDist m c (ix3 b n l) := dist_eq m c hx hw b n
  simp only [h]

include hx hw in
/-- The kernel's indices are the reference's. -/
theorem idx_eq : idxArr m c = ReferenceIdeal.Vq.nearest (refDist m c) := by
  funext j
  idx_vars j
  exact idx_at m c hx hw _ _

/-- The reference's logits of the kernel's arguments. -/
abbrev refLogits : FVec Ideal S8x576x512 .f32 := ReferenceIdeal.Vq.logits (refDist m c) (gs m c)

/-- A reference's logit is the noise less the distance. -/
theorem refLogits_at (b : Fin 8) (n : Fin 576) (k : Fin 512) :
    refLogits m c (ix3 b n k) = gs m c (ix3 b n k) - refDist m c (ix3 b n k) := by
  refine (ReferenceIdeal.Vq.logits_at _ _ b n k).trans ((div_one' _).trans ?_)
  rw [add_comm, sub_eq_add_neg]

include hx hw hg in
/-- No logit is plus infinity. -/
theorem refLogits_lt (b : Fin 8) (n : Fin 576) (k : Fin 512) : refLogits m c (ix3 b n k) < (⊤ : EReal) := by
  rw [refLogits_at, sub_eq_add_neg]
  refine EReal.add_lt_top (hg _).ne ?_
  have h := (refDist_isReal m c hx hw b n k).2
  intro h'
  exact h (EReal.neg_eq_top_iff.1 h')

include hx hw hg in
/-- The kernel's softmax is the reference's, entry by entry. -/
theorem enc_at (b : Fin 8) (n : Fin 576) (k : Fin 512) :
    encBlk m c (pt b) (ix3 (sl b) n k) = ReferenceIdeal.Vq.soft (refLogits m c) (ix3 b n k) := by
  unfold encBlk
  refine (pay4_at (iblk m c 2 (pt b)) (distBlk m c (pt b)) (sl b) n k).trans ?_
  have h : ∀ l : Fin 512, (show FVec Ideal S2x576x512 .f32 from iblk m c 2 (pt b)) (ix3 (sl b) n l) - distBlk m c (pt b) (ix2 (row (sl b) n) l)
      = refLogits m c (ix3 b n l) := fun l => by
    rw [dist_eq m c hx hw, refLogits_at]
    exact congrArg (· - _) (g_block m c b n l)
  refine (congrArg₂ Ideal.div (congrArg Ideal.exp (h k)) (Finset.sum_congr rfl fun l _ => congrArg Ideal.exp (h l))).trans ?_
  refine Eq.trans ?_ (ReferenceIdeal.Vq.soft_at _ b n k).symm
  simp only [ReferenceIdeal.Vq.expd_at, ReferenceIdeal.Vq.top_at, ofBits_bot, bot_sup_eq, max_bot_left]
  exact (softmax_eq (fun l => refLogits_lt m c hx hw hg b n l) k).symm

include hx hw hg in
/-- The kernel's softmax is the reference's. -/
theorem enc_eq : encArr m c = ReferenceIdeal.Vq.soft (refLogits m c) := by
  funext j
  idx_vars j
  exact enc_at m c hx hw hg _ _ _

include hx hw hg in
/-- The kernel's mixture is the reference's, entry by entry. -/
theorem q_at (b : Fin 8) (n : Fin 576) (l : Fin 64) :
    qBlk m c (pt b) (ix3 (sl b) n l)
      = ReferenceIdeal.Vq.mix (ReferenceIdeal.Vq.soft (refLogits m c)) (ws m c) (ix3 b n l) := by
  refine (pay5_at (iblk m c 2 (pt b)) (cbk m c) (distBlk m c (pt b)) (sl b) n l).trans ?_
  refine Eq.trans ?_ (ReferenceIdeal.Vq.mix_at _ _ b n l).symm
  refine Finset.sum_congr rfl fun k _ => ?_
  rw [w_block]
  exact congrArg (· * _) (enc_at m c hx hw hg b n k)

include hx hw hg in
/-- The kernel's mixture is the reference's. -/
theorem q_eq : qArr m c = ReferenceIdeal.Vq.mix (ReferenceIdeal.Vq.soft (refLogits m c)) (ws m c) := by
  funext j
  idx_vars j
  exact q_at m c hx hw hg _ _ _

end Cert.KernelIdeal.Vq
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Pre
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem

set_option smartUnfolding false in
/-- The kernel runs, leaves its arguments unchanged and every counter at zero: it is its idealization, operation for
operation, whose frame holds of floats of any kind. -/
theorem frame_kernel : Cert.quiescent_Kernel := fun m ρ _ => Cert.KernelIdeal.Vq.frame m ρ

/-- So does its idealization, whatever its arguments hold. -/
theorem frame_ideal : Cert.quiescent_KernelIdeal := fun m ρ _ => Cert.KernelIdeal.Vq.frame m ρ

/-- So does its idealization under the precondition. -/
theorem frame_ideal_pre : Cert.quiescent_KernelIdeal_pre_entries_finite := fun m ρ _ => Cert.KernelIdeal.Vq.frame m ρ

/-- The reference runs, leaves its arguments unchanged and every counter at zero. -/
theorem frame_reference : Cert.quiescent_ReferenceIdeal := by
  intro m g _
  hlo_run
  · exact fun _ => ⟨trivial, trivial, trivial⟩
  · exact sem_eq_zero_of_no_sems (sig := Cert.ReferenceIdeal.sig) (by decide) _

/-- So it does under the precondition. -/
theorem frame_reference_pre : Cert.quiescent_ReferenceIdeal_pre_entries_finite :=
  fun m g _ => frame_reference m g trivial

set_option maxHeartbeats 1600000 in
/-- Under the precondition the kernel's mixture, indices and softmax are the reference's. -/
theorem values : Cert.algebraic_KernelIdeal_ReferenceIdeal_pre_entries_finite := by
  pair_intro
  · run_from Cert.KernelIdeal.Vq.results m g
  · have hd := fun c => Cert.Pre_entries_finite.decode _ _ _ (hpre c)
    hlo_run
    · exact (Cert.KernelIdeal.Vq.q_eq m c (hd c).1 (hd c).2.1 (hd c).2.2).symm
    · exact (Cert.KernelIdeal.Vq.idx_eq m c (hd c).1 (hd c).2.1).symm
    · exact (Cert.KernelIdeal.Vq.enc_eq m c (hd c).1 (hd c).2.1 (hd c).2.2).symm

/-- Every claim. -/
theorem claim : Cert.Claim :=
  ⟨Cert.Kernel.Gen.facts, Cert.KernelIdeal.Gen.facts, Cert.ReferenceIdeal.Gen.facts, Cert.Pre_entries_finite.preFacts,
    frame_kernel, frame_ideal, frame_ideal_pre, frame_reference, frame_reference_pre, trivial, values⟩

end Cert.Proof

end
